-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8x2048 : Shape := ⟨2, ![8, 2048]⟩
abbrev S8 : Shape := ⟨1, ![8]⟩
abbrev S1x2048 : Shape := ⟨2, ![1, 2048]⟩
abbrev S1 : Shape := ⟨1, ![1]⟩
abbrev S8x32x2048 : Shape := ⟨3, ![8, 32, 2048]⟩
abbrev S8x2048x32 : Shape := ⟨3, ![8, 2048, 32]⟩
abbrev S2048x8x32 : Shape := ⟨3, ![2048, 8, 32]⟩
abbrev S2048x256 : Shape := ⟨2, ![2048, 256]⟩
abbrev S_ : Shape := ⟨0, ![]⟩
abbrev S7x2048 : Shape := ⟨2, ![7, 2048]⟩
abbrev S16x2048 : Shape := ⟨2, ![16, 2048]⟩
abbrev S256x2048 : Shape := ⟨2, ![256, 2048]⟩
abbrev S8x1 : Shape := ⟨2, ![8, 1]⟩
abbrev S1x1 : Shape := ⟨2, ![1, 1]⟩
abbrev S1024x2048 : Shape := ⟨2, ![1024, 2048]⟩
abbrev S8x256 : Shape := ⟨2, ![8, 256]⟩
abbrev S512x2048 : Shape := ⟨2, ![512, 2048]⟩
abbrev S16x512 : Shape := ⟨2, ![16, 512]⟩
abbrev S8x512 : Shape := ⟨2, ![8, 512]⟩
abbrev S1x512 : Shape := ⟨2, ![1, 512]⟩
abbrev S512 : Shape := ⟨1, ![512]⟩
abbrev S512x256 : Shape := ⟨2, ![512, 256]⟩

abbrev nBuf : Space → Nat
  | .hbm => 20
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S8, .f32⟩
  | .hbm, ⟨3, _⟩ => ⟨S1x2048, .f32⟩
  | .hbm, ⟨4, _⟩ => ⟨S1, .f32⟩
  | .hbm, ⟨5, _⟩ => ⟨S8x32x2048, .f32⟩
  | .hbm, ⟨6, _⟩ => ⟨S8x2048x32, .f32⟩
  | .hbm, ⟨7, _⟩ => ⟨S2048x8x32, .f32⟩
  | .hbm, ⟨8, _⟩ => ⟨S2048x256, .f32⟩
  | .hbm, ⟨9, _⟩ => ⟨S2048x256, .bf16⟩
  | .hbm, ⟨10, _⟩ => ⟨S_, .f32⟩
  | .hbm, ⟨11, _⟩ => ⟨S7x2048, .f32⟩
  | .hbm, ⟨12, _⟩ => ⟨S16x2048, .f32⟩
  | .hbm, ⟨13, _⟩ => ⟨S16x2048, .bf16⟩
  | .hbm, ⟨14, _⟩ => ⟨S8x32x2048, .f32⟩
  | .hbm, ⟨15, _⟩ => ⟨S256x2048, .f32⟩
  | .hbm, ⟨16, _⟩ => ⟨S256x2048, .bf16⟩
  | .hbm, ⟨17, _⟩ => ⟨S8x1, .f32⟩
  | .hbm, ⟨18, _⟩ => ⟨S1x1, .f32⟩
  | .hbm, ⟨19, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x256, .bf16⟩
  | .local _ .vmem, ⟨3, _⟩ => ⟨S16x2048, .bf16⟩
  | .local _ .vmem, ⟨4, _⟩ => ⟨S256x2048, .bf16⟩
  | .local _ .vmem, ⟨5, _⟩ => ⟨S8x1, .f32⟩
  | .local _ .vmem, ⟨6, _⟩ => ⟨S1x1, .f32⟩
  | .local _ .vmem, ⟨7, _⟩ => ⟨S1024x2048, .f32⟩
  | .local _ .vmem, ⟨8, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x2048 : Shape := ⟨2, ![8192, 2048]⟩
abbrev S8x2048 : Shape := ⟨2, ![8, 2048]⟩
abbrev S8 : Shape := ⟨1, ![8]⟩
abbrev S1x2048 : Shape := ⟨2, ![1, 2048]⟩
abbrev S1 : Shape := ⟨1, ![1]⟩
abbrev S8x32x2048 : Shape := ⟨3, ![8, 32, 2048]⟩
abbrev S8x2048x32 : Shape := ⟨3, ![8, 2048, 32]⟩
abbrev S2048x8 : Shape := ⟨2, ![2048, 8]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩
abbrev S2048x1 : Shape := ⟨2, ![2048, 1]⟩
abbrev S1x1 : Shape := ⟨2, ![1, 1]⟩
abbrev S8x32x8192 : Shape := ⟨3, ![8, 32, 8192]⟩
abbrev S8x8192x32 : Shape := ⟨3, ![8, 8192, 32]⟩
abbrev S8x8192x2048 : Shape := ⟨3, ![8, 8192, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S8, .f32⟩
  | .hbm, ⟨3, _⟩ => ⟨S1x2048, .f32⟩
  | .hbm, ⟨4, _⟩ => ⟨S1, .f32⟩
  | .hbm, ⟨5, _⟩ => ⟨S8x32x2048, .f32⟩
  | .hbm, ⟨6, _⟩ => ⟨S8x2048x32, .f32⟩
  | .hbm, ⟨7, _⟩ => ⟨S2048x8, .f32⟩
  | .hbm, ⟨8, _⟩ => ⟨S8192x8, .f32⟩
  | .hbm, ⟨9, _⟩ => ⟨S1x8, .f32⟩
  | .hbm, ⟨10, _⟩ => ⟨S8192x8, .f32⟩
  | .hbm, ⟨11, _⟩ => ⟨S8192x8, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8, .f32⟩
  | .hbm, ⟨25, _⟩ => ⟨S8192x8, .f32⟩
  | .hbm, ⟨26, _⟩ => ⟨S2048x1, .f32⟩
  | .hbm, ⟨27, _⟩ => ⟨S8192x1, .f32⟩
  | .hbm, ⟨28, _⟩ => ⟨S1x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x8, .f32⟩
  | .hbm, ⟨43, _⟩ => ⟨S8192x8, .f32⟩
  | .hbm, ⟨44, _⟩ => ⟨S_, .f32⟩
  | .hbm, ⟨45, _⟩ => ⟨S8192x8, .f32⟩
  | .hbm, ⟨46, _⟩ => ⟨S8192x8, .i1⟩
  | .hbm, ⟨47, _⟩ => ⟨S8192x8, .f32⟩
  | .hbm, ⟨48, _⟩ => ⟨S8192x8, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .i1⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x8, .f32⟩
  | .hbm, ⟨59, _⟩ => ⟨S8192x8, .f32⟩
  | .hbm, ⟨60, _⟩ => ⟨S8x32x8192, .f32⟩
  | .hbm, ⟨61, _⟩ => ⟨S8x8192x32, .f32⟩
  | .hbm, ⟨62, _⟩ => ⟨S8x8192x2048, .f32⟩
  | .hbm, ⟨63, _⟩ => ⟨S_, .f32⟩
  | .hbm, ⟨64, _⟩ => ⟨S8x8192x2048, .f32⟩
  | .hbm, ⟨65, _⟩ => ⟨S8x8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.KernelIdealRun.lean ====
/- The launch of `KernelIdeal`: its one pallas_call, run grid point by grid point.

   The host prefix of this program stacks three arrays with one `concatenate` inside the jitted function `_run`,
   and the run is set up here by hand: the contents of every buffer when the
   region is entered (`entry`), what one grid point leaves in the output window (`blockOut`), the triple of the
   kernel body (`body_triple`), and from these the run of the whole program (`launched`). The last theorem,
   `frame`, is the frame claim at any float values. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffer `b` holds when the region is entered: the launch contents after the host prefix. -/
abbrev entry (c : Dev nD) (b : Ref sig .tc) : Buf (Elt F) ((c : Thread nD τ).loc b) :=
  StableHlo.after hostOps0 (fun b => m (c, b)) b

/-- No host operation allocates a buffer. -/
theorem prefix_fresh : (hostOps0 : List (HloOp τ sig (Elt F))).Forall fun op => op.fresh = ∅ := by
  simp only [List.Forall]; repeat' constructor

set_option maxHeartbeats 800000 in
/-- `@main` is the host prefix and then the region. -/
theorem reaches_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_fresh main_chain

/-- The buffers that the host prefix writes. -/
abbrev written : List (Ref sig .tc) :=
  [main_call0_v0, main_call0_v1, main_call0_v2, main_call0_cst, main_call0_v3, main_call0_v4, main_call0_v5,
    main_call0_v6, main_call0_v7, main_call0_v8, main_call0_v9, main_call0_v10]

/-- A buffer that the host prefix does not write is in the region as it was launched. -/
theorem entry_unwritten (c : Dev nD) (b : Ref sig .tc) (h : ∀ w ∈ written, b ≠ w) :
    entry m c b = m ((c : Thread nD τ).loc b) :=
  StableHlo.after_of_forall_not_mem (b := Proc.devRef .tc b) _ _ (List.forall_iff_forall_mem.mp (by
    simp only [List.mem_cons, List.not_mem_nil, or_false, forall_eq_or_imp, forall_eq] at h
    obtain ⟨h0, h1, h2, h3, h4, h5, h6, h7, h8, h9, h10, h11⟩ := h
    simp only [hostOps0, List.Forall, StableHlo.nullary_writes, StableHlo.unary_writes, StableHlo.reshape_writes,
      StableHlo.nary_writes, StableHlo.TRef.unary, StableHlo.TRef.nullary, StableHlo.TRef.reshape, StableHlo.TRef.nary,
      Finset.mem_singleton]
    refine ⟨?_, ?_, ?_, ?_, ?_, ?_, ?_, ?_, ?_, ?_, ?_, ?_⟩ <;>
      (refine StableHlo.devRef_ne_of_ne ?_; assumption)))

/-! ## The windows -/

/-- The block of window `w` at grid point `t`, read off its array as the region finds it. -/
def block (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The upper half of a token block's rows (the first trip of the kernel's loop). -/
abbrev rTop : Rect S1024x2048 := Rect.unit (s := S1024x2048) ![0, 0] S512x2048.size inb_S1024x2048_S512x2048_0_0
/-- The lower half (its second trip). -/
abbrev rBot : Rect S1024x2048 := Rect.unit (s := S1024x2048) ![512, 0] S512x2048.size inb_S1024x2048_S512x2048_512_0
/-- The whole stack of router and threshold rows. -/
abbrev rRouter : Rect S16x2048 := Rect.unit (s := S16x2048) ![0, 0] S16x2048.size inb_S16x2048_S16x2048_0_0
/-- The whole router bias. -/
abbrev rBias : Rect S8x1 := Rect.unit (s := S8x1) ![0, 0] S8x1.size inb_S8x1_S8x1_0_0
/-- The whole threshold bias. -/
abbrev rThr : Rect S1x1 := Rect.unit (s := S1x1) ![0, 0] S1x1.size inb_S1x1_S1x1_0_0
/-- The whole down projection. -/
abbrev rDown : Rect S2048x256 := Rect.unit (s := S2048x256) ![0, 0] S2048x256.size inb_S2048x256_S2048x256_0_0
/-- The whole up projection. -/
abbrev rUp : Rect S256x2048 := Rect.unit (s := S256x2048) ![0, 0] S256x2048.size inb_S256x2048_S256x2048_0_0

/-- What the kernel's first trip stores: the output rows of the upper half. -/
def topVal (x0 : Vec F S1024x2048 .f32) (x1 : Vec F S2048x256 .bf16) (x2 : Vec F S16x2048 .bf16)
    (x3 : Vec F S256x2048 .bf16) (x4 : Vec F S8x1 .f32) (x5 : Vec F S1x1 .f32) : Vec F S512x2048 .f32 :=
  k0_pay6 k0_pay1 (k0_pay2 (View.ld x0 rTop)) (k0_pay4 (View.ld x0 rTop) (View.ld x2 rRouter) (View.ld x4 rBias))
    (k0_pay5 (View.ld x0 rTop) (View.ld x2 rRouter)) (View.ld x5 rThr) (View.ld x1 rDown) (View.ld x3 rUp)

/-- What its second trip stores: the output rows of the lower half. -/
def botVal (x0 : Vec F S1024x2048 .f32) (x1 : Vec F S2048x256 .bf16) (x2 : Vec F S16x2048 .bf16)
    (x3 : Vec F S256x2048 .bf16) (x4 : Vec F S8x1 .f32) (x5 : Vec F S1x1 .f32) : Vec F S512x2048 .f32 :=
  k0_pay9 k0_pay1 (k0_pay7 (View.ld x0 rBot)) (k0_pay8 (View.ld x2 rRouter)) (View.ld x4 rBias) (View.ld x5 rThr)
    (View.ld x1 rDown) (View.ld x3 rUp)

/-- What one grid point leaves in the output window, from the blocks of the input windows. -/
def blockOut (x0 : Vec F S1024x2048 .f32) (x1 : Vec F S2048x256 .bf16) (x2 : Vec F S16x2048 .bf16)
    (x3 : Vec F S256x2048 .bf16) (x4 : Vec F S8x1 .f32) (x5 : Vec F S1x1 .f32) : Vec F S1024x2048 .f32 :=
  View.canon [⟨rBot, botVal x0 x1 x2 x3 x4 x5⟩, ⟨rTop, topVal x0 x1 x2 x3 x4 x5⟩]

/-- The two stores cover the output window. -/
theorem stores_cover (p0 p1 : Vec F S512x2048 .f32) (y : S1024x2048.Idx) :
    ∃ pc ∈ ([⟨rBot, p0⟩, ⟨rTop, p1⟩] : List (View.Piece (Elt F) S1024x2048 .f32)), y ∈ pc.1.set :=
  View.cover_of_tiled [⟨rBot, p0⟩, ⟨rTop, p1⟩] S512x2048.size (by rfl) y

/-! ## The kernel body -/

set_option maxHeartbeats 1000000 in
/-- The kernel body, on whole buffers, leaves its inputs as they are and `blockOut` of them in the output's. -/
theorem body_triple (c : Dev nD) (E : Set ℕ) (i : grid0.Coords)
    (a1 : Memref sig .tc .vmem S1024x2048 .f32) (w1 : a1.IsWhole) (a2 : Memref sig .tc .vmem S2048x256 .bf16) (w2 : a2.IsWhole)
    (a3 : Memref sig .tc .vmem S16x2048 .bf16) (w3 : a3.IsWhole) (a4 : Memref sig .tc .vmem S256x2048 .bf16) (w4 : a4.IsWhole)
    (a5 : Memref sig .tc .vmem S8x1 .f32) (w5 : a5.IsWhole) (a6 : Memref sig .tc .vmem S1x1 .f32) (w6 : a6.IsWhole)
    (a7 : Memref sig .tc .vmem S1024x2048 .f32) (w7 : a7.IsWhole)
    (x0 : Vec F S1024x2048 .f32) (x1 : Vec F S2048x256 .bf16) (x2 : Vec F S16x2048 .bf16) (x3 : Vec F S256x2048 .bf16)
    (x4 : Vec F S8x1 .f32) (x5 : Vec F S1x1 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare x4 ∗ owns (c : Thread nD τ) a6 fullShare x5
            ∗ owns (c : Thread nD τ) a7 fullShare (blockOut x0 x1 x2 x3 x4 x5)) -∗ K ⟨⟩))
      ⊢ wp frame (wpE (defs₀ (F := F)) Variants.none c none) E
          (cc0__fused_kernel i a1 w1 a2 w2 a3 w3 a4 w4 a5 w5 a6 w6 a7 w7) K := by
  simp only [cc0__fused_kernel_eq_skeleton]; unfold cc0__fused_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (stores_cover _ _)).trans ?_
  rfl

/-! ## The proof data of the pipeline -/

/-- The arrays as the region finds them; after the body, each input window at its block and the output window at
    `blockOut` of the input blocks; nothing owed, full shares. -/
def data (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => blockOut (block m c 0 t) (block m c 1 t) (block m c 2 t) (block m c 3 t) (block m c 4 t) (block m c 5 t)
  Φ _ := Pipeline.ΦA spec0 c
  q _ := fullShare
  owed _ := 0

theorem data_A (c : Dev nD) (w : Fin cfg0.W) : (data m 0 c).A w = entry m c (Pipeline.arrRef spec0 w) := by
  dsimp only [data]

theorem after_0 (c : Dev nD) (t : Fin cfg0.N) : (data m 0 c).after 0 t = block m c 0 t := by dsimp only [data]
theorem after_1 (c : Dev nD) (t : Fin cfg0.N) : (data m 0 c).after 1 t = block m c 1 t := by dsimp only [data]
theorem after_2 (c : Dev nD) (t : Fin cfg0.N) : (data m 0 c).after 2 t = block m c 2 t := by dsimp only [data]
theorem after_3 (c : Dev nD) (t : Fin cfg0.N) : (data m 0 c).after 3 t = block m c 3 t := by dsimp only [data]
theorem after_4 (c : Dev nD) (t : Fin cfg0.N) : (data m 0 c).after 4 t = block m c 4 t := by dsimp only [data]
theorem after_5 (c : Dev nD) (t : Fin cfg0.N) : (data m 0 c).after 5 t = block m c 5 t := by dsimp only [data]
theorem after_6 (c : Dev nD) (t : Fin cfg0.N) : (data m 0 c).after 6 t
    = blockOut (block m c 0 t) (block m c 1 t) (block m c 2 t) (block m c 3 t) (block m c 4 t) (block m c 5 t) := by
  dsimp only [data]

/-- Each input window holds its block before the body, fetched at this point or kept from an earlier one. -/
theorem before_0 (c : Dev nD) (t : Fin cfg0.N) (d) : (data m 0 c).before 0 t d = block m c 0 t :=
  ((data m 0 c).before_in_eq_fetched 0 rfl (fun _ => rfl) (fun _ _ _ => rfl)
    (fun t => by rw [after_0]; unfold Dat.blockOf block; rw [data_A]; try rfl) t d).trans
    (by unfold Dat.fetched Dat.blockOf block; rw [data_A]; try rfl)
theorem before_1 (c : Dev nD) (t : Fin cfg0.N) (d) : (data m 0 c).before 1 t d = block m c 1 t :=
  ((data m 0 c).before_in_eq_fetched 1 rfl (fun _ => rfl) (fun _ _ _ => rfl)
    (fun t => by rw [after_1]; unfold Dat.blockOf block; rw [data_A]; try rfl) t d).trans
    (by unfold Dat.fetched Dat.blockOf block; rw [data_A]; try rfl)
theorem before_2 (c : Dev nD) (t : Fin cfg0.N) (d) : (data m 0 c).before 2 t d = block m c 2 t :=
  ((data m 0 c).before_in_eq_fetched 2 rfl (fun _ => rfl) (fun _ _ _ => rfl)
    (fun t => by rw [after_2]; unfold Dat.blockOf block; rw [data_A]; try rfl) t d).trans
    (by unfold Dat.fetched Dat.blockOf block; rw [data_A]; try rfl)
theorem before_3 (c : Dev nD) (t : Fin cfg0.N) (d) : (data m 0 c).before 3 t d = block m c 3 t :=
  ((data m 0 c).before_in_eq_fetched 3 rfl (fun _ => rfl) (fun _ _ _ => rfl)
    (fun t => by rw [after_3]; unfold Dat.blockOf block; rw [data_A]; try rfl) t d).trans
    (by unfold Dat.fetched Dat.blockOf block; rw [data_A]; try rfl)
theorem before_4 (c : Dev nD) (t : Fin cfg0.N) (d) : (data m 0 c).before 4 t d = block m c 4 t :=
  ((data m 0 c).before_in_eq_fetched 4 rfl (fun _ => rfl) (fun _ _ _ => rfl)
    (fun t => by rw [after_4]; unfold Dat.blockOf block; rw [data_A]; try rfl) t d).trans
    (by unfold Dat.fetched Dat.blockOf block; rw [data_A]; try rfl)
theorem before_5 (c : Dev nD) (t : Fin cfg0.N) (d) : (data m 0 c).before 5 t d = block m c 5 t :=
  ((data m 0 c).before_in_eq_fetched 5 rfl (fun _ => rfl) (fun _ _ _ => rfl)
    (fun t => by rw [after_5]; unfold Dat.blockOf block; rw [data_A]; try rfl) t d).trans
    (by unfold Dat.fetched Dat.blockOf block; rw [data_A]; try rfl)

/-! ## The obligation of the body, at any grid point -/

/-- What the body is called with at point `t`, window by window. -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d)))

/-- What it returns. -/
def post (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t))

/-- The body at any point takes `pre` to `post`. -/
theorem point_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (data m 0 c).Φ t.succ = (data m 0 c).Φ t.castSucc from rfl,
    show (data m 0 c).owesAt () t.succ = (data m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (block m c 0 t) (block m c 1 t) (block m c 2 t) (block m c 3 t) (block m c 4 t) (block m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table of bodies at the slots of point `t` is the body called there. -/
theorem table_row (t : Fin cfg0.N) :
    defs₀ (F := F) .tc cfg0.body (cfg0.bodyArgs t (cfg0.slots t)) = bodyAt0 t := by
  unfold defs₀; rw [Defs.onTc_tc]

/-- The pipeline's obligation on its body. -/
theorem obligation (c : Dev nD) : BodyObligation (data (F := F) m 0 c) (defs₀ (F := F)) Variants.none () Set.univ := fun t => by
  rw [bigSep_W0, bigSep_W0, table_row]
  exact triple_restated (point_sound m c t) rfl .rfl fun _ => .rfl

/-! ## The run -/

set_option backward.isDefEq.respectTransparency.types false in
set_option maxHeartbeats 800000 in
/-- Every execution of the program ends with the pipeline's arrays as the proof data says, every other buffer as
    the region found it, and every semaphore counter at zero. -/
theorem launched : θ_run defs (onTc (τ := τ) (main (F := F))) (s₀ m ρ)
    (fun r => (Pipeline.FramePost cfgs (data m) 0 (entry m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := entry m) (hmain := reaches_region m Variants.none) (hA := data_A m) (hΦ := fun _ _ => rfl)

/-- The result array after the run: the output window's array once every point has written its block back. -/
def result (c : Dev nD) : Buf (Elt F) ((c : Thread nD τ).loc main_v0) := (data m 0 c).arrAt 6 cfg0.N

/-- The run with the result named, the arguments unchanged and the counters at zero. -/
theorem run : θ_run defs (onTc (τ := τ) (main (F := F))) ⟨m, fun _ => 0, ρ⟩ fun r => (∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0 :=
  (θ_run defs _ _).mono (fun r h => ⟨fun c =>
    have kept (b : Ref sig .tc) (hb : b ∈ Pipeline.restRefs sig spec0) (hw : ∀ w ∈ written, b ≠ w) :
        r.2.mem ((c : Thread nD τ).loc b) = m ((c : Thread nD τ).loc b) :=
      ((h.1 c).2 b hb).trans (entry_unwritten m c b hw)
    ⟨(h.1 c).1 6,
      ((h.1 c).1 0).trans (((data m 0 c).arrAt_in 0 rfl _).trans ((data_A m c 0).trans (entry_unwritten m c main_arg0 (by decide)))),
      kept main_arg1 (Pipeline.mem_restRefs_of main_arg1 (by decide) (by decide)) (by decide),
      kept main_arg2 (Pipeline.mem_restRefs_of main_arg2 (by decide) (by decide)) (by decide),
      kept main_arg3 (Pipeline.mem_restRefs_of main_arg3 (by decide) (by decide)) (by decide),
      kept main_arg4 (Pipeline.mem_restRefs_of main_arg4 (by decide) (by decide)) (by decide),
      kept main_arg5 (Pipeline.mem_restRefs_of main_arg5 (by decide) (by decide)) (by decide),
      kept main_arg6 (Pipeline.mem_restRefs_of main_arg6 (by decide) (by decide)) (by decide)⟩, h.2⟩)
    (launched m ρ)

/-- THE FRAME: the program ends, its arguments unchanged and its semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run m ρ)

end Cert.KernelIdeal.Run

end
-- ==== Proof.Weights.lean ====
/- The routing weights of one token. The kernel never forms the softmax: it takes bare exponentials, moves the
   division by their sum into the threshold, and normalizes once. The reference subtracts the largest logit,
   normalizes, takes the threshold off, and normalizes again. `weights` says that the two agree at every choice of
   logits, infinite ones included, and that the weight is a nonnegative real number. -/
module

public import Idealize.ShloMosaic.Lib.Pointwise

@[expose] public section

noncomputable section

namespace Cert.Weights

open Idealize.ShloMosaic

/-- What the kernel keeps of expert `e` before rescaling: its exponential, less the threshold's share of
    all of them, and nothing below zero. -/
def kept (l : Fin 8 → EReal) (θ : EReal) (e : Fin 8) : EReal :=
  max (Ideal.exp (l e) - θ * ∑ j, Ideal.exp (l j)) 0

/-- The kernel's weight of expert `e`. -/
def kernelWeight (l : Fin 8 → EReal) (θ : EReal) (e : Fin 8) : EReal :=
  Ideal.div (kept l θ e) (if ∑ j, kept l θ j = 0 then 1 else ∑ j, kept l θ j)

/-- The largest logit. -/
def top (l : Fin 8 → EReal) : EReal := Finset.univ.fold max ⊥ l

/-- The softmax of the logits, less the threshold. -/
def excess (l : Fin 8 → EReal) (θ : EReal) (e : Fin 8) : EReal :=
  Ideal.div (Ideal.exp (l e - top l)) (∑ j, Ideal.exp (l j - top l)) - θ

/-- What the reference keeps of expert `e`: its excess where that is not negative. -/
def chosen (l : Fin 8 → EReal) (θ : EReal) (e : Fin 8) : EReal :=
  excess l θ e * (if 0 ≤ excess l θ e then 1 else 0)

/-- The reference's weight of expert `e`. -/
def referenceWeight (l : Fin 8 → EReal) (θ : EReal) (e : Fin 8) : EReal :=
  Ideal.div (chosen l θ e) (if ∑ j, chosen l θ j = 0 then 1 else ∑ j, chosen l θ j)

/-- A sum of real numbers, read as extended reals. -/
theorem coe_sum {ι : Type} [Fintype ι] (f : ι → ℝ) : ((∑ j, f j : ℝ) : EReal) = ∑ j, ((f j : ℝ) : EReal) := by
  classical
  induction (Finset.univ : Finset ι) using Finset.induction_on with
  | empty => simp
  | insert a s ha ih => rw [Finset.sum_insert ha, Finset.sum_insert ha, EReal.coe_add, ih]

theorem top_eq_sup (l : Fin 8 → EReal) : top l = Finset.univ.sup l := rfl

/-- No logit exceeds the largest. -/
theorem le_top' (l : Fin 8 → EReal) (e : Fin 8) : l e ≤ top l := by
  rw [top_eq_sup]; exact Finset.le_sup (Finset.mem_univ e)

/-- Some logit is the largest. -/
theorem exists_eq_top (l : Fin 8 → EReal) : ∃ e, l e = top l := by
  rw [top_eq_sup]
  obtain ⟨e, -, h⟩ := Finset.exists_mem_eq_sup Finset.univ ⟨0, Finset.mem_univ _⟩ l
  exact ⟨e, h.symm⟩

/-- An exponential is not negative. -/
theorem exp_nonneg (x : EReal) : 0 ≤ Ideal.exp x := by
  induction x with
  | bot => simp
  | top => simp
  | coe x => rw [Ideal.exp_coe]; exact_mod_cast (Real.exp_pos x).le

/-- Zero over zero is minus infinity in this arithmetic. -/
theorem div_zero_zero : Ideal.div 0 0 = ⊥ := by simp [Ideal.div]

/-- Zero over anything else is zero. -/
theorem div_zero_left {y : EReal} (hy : y ≠ 0) : Ideal.div 0 y = 0 := by simp [Ideal.div, hy]

/-- Where the largest logit is infinite the shifted exponentials are all zero, and the reference's
    weights are all zero. -/
theorem referenceWeight_of_shift (l : Fin 8 → EReal) (θ : EReal) (hz : ∀ e, Ideal.exp (l e - top l) = 0) (e : Fin 8) :
    referenceWeight l θ e = 0 := by
  have hc : ∀ j, chosen l θ j = 0 := fun j => by simp [chosen, excess, hz, div_zero_zero]
  simp [referenceWeight, hc, div_zero_left]

/-- The kernel's weight is the reference's, and it is a nonnegative real number. -/
theorem weights (l : Fin 8 → EReal) (θ : ℝ) (hθ : 0 ≤ θ) (e : Fin 8) :
    kernelWeight l θ e = referenceWeight l θ e ∧ ∃ w : ℝ, 0 ≤ w ∧ referenceWeight l θ e = w := by
  obtain ⟨i, hi⟩ := exists_eq_top l
  rcases hM : top l with _ | _ | μ
  · -- every logit is minus infinity
    have hM : top l = ⊥ := hM
    have hl : ∀ j, l j = ⊥ := fun j => le_bot_iff.mp (hM ▸ le_top' l j)
    have hr := referenceWeight_of_shift l θ (fun j => by simp [hl j]) e
    have hk : ∀ j, kept l θ j = 0 := fun j => by simp [kept, hl]
    refine ⟨?_, 0, le_rfl, by simpa using hr⟩
    rw [hr]; simp [kernelWeight, hk, div_zero_left]
  · -- some logit is plus infinity
    have hM : top l = ⊤ := hM
    have hr := referenceWeight_of_shift l θ (fun j => by
      rw [hM, EReal.sub_top, Ideal.exp_bot]) e
    refine ⟨?_, 0, le_rfl, by simpa using hr⟩
    rw [hr]
    have hS : ∀ f : Fin 8 → EReal, (∀ j, 0 ≤ f j) → f i = ⊤ → ∑ j, f j = ⊤ := fun f h0 h =>
      top_le_iff.mp (h ▸ Finset.single_le_sum (fun j _ => h0 j) (Finset.mem_univ i))
    have hU : ∑ j, Ideal.exp (l j) = ⊤ := hS _ (fun j => exp_nonneg _) (by simp [hi, hM])
    rcases hθ.eq_or_lt with h | h
    · subst h
      have hk : ∀ j, kept l ((0 : ℝ) : EReal) j = Ideal.exp (l j) := fun j => by
        simp [kept, exp_nonneg]
      have : kernelWeight l ((0 : ℝ) : EReal) e = Ideal.div (Ideal.exp (l e)) ⊤ := by
        simp only [kernelWeight, hk, hU, EReal.top_ne_zero, if_false]
      rw [this]; simp [Ideal.div]
    · have hk : ∀ j, kept l θ j = 0 := fun j => by
        simp [kept, hU, EReal.coe_mul_top_of_pos h, EReal.sub_top]
      simp [kernelWeight, hk, div_zero_left]
  · -- the largest logit is a real number
    have hM : top l = ((μ : ℝ) : EReal) := hM
    obtain ⟨x, hx⟩ : ∃ x : Fin 8 → ℝ, ∀ j, 0 ≤ x j ∧ Ideal.exp (l j) = x j ∧
        Ideal.exp (l j - top l) = ((x j * Real.exp (-μ) : ℝ) : EReal) ∧ (l j = top l → 0 < x j) := by
      suffices h : ∀ j, ∃ y : ℝ, 0 ≤ y ∧ Ideal.exp (l j) = y ∧
          Ideal.exp (l j - top l) = ((y * Real.exp (-μ) : ℝ) : EReal) ∧ (l j = top l → 0 < y) from
        ⟨fun j => (h j).choose, fun j => (h j).choose_spec⟩
      intro j
      have hle := le_top' l j
      rw [hM] at hle ⊢
      generalize l j = y at *
      induction y with
      | bot => exact ⟨0, le_rfl, by simp, by simp, by simp⟩
      | top => simp at hle
      | coe y =>
        refine ⟨Real.exp y, (Real.exp_pos y).le, Ideal.exp_coe y, ?_, fun _ => Real.exp_pos y⟩
        rw [← EReal.coe_sub, Ideal.exp_coe, ← Real.exp_add, sub_eq_add_neg]
    set k : ℝ := Real.exp (-μ) with hk
    have hk0 : 0 < k := Real.exp_pos _
    set X : ℝ := ∑ j, x j with hX
    have hX0 : 0 < X :=
      Finset.sum_pos' (fun j _ => (hx j).1) ⟨i, Finset.mem_univ i, (hx i).2.2.2 hi⟩
    set w : Fin 8 → ℝ := fun j => max (x j / X - θ) 0 with hw
    have hsum : ∀ f : Fin 8 → ℝ, ∑ j, ((f j : ℝ) : EReal) = ((∑ j, f j : ℝ) : EReal) := fun f =>
      (coe_sum f).symm
    have hkept : ∀ j, kept l θ j = ((X * w j : ℝ) : EReal) := fun j => by
      have h1 : X * w j = max (x j - θ * X) 0 := by
        simp only [hw]
        rw [mul_max_of_nonneg _ _ hX0.le, mul_zero, mul_sub, mul_div_cancel₀ _ hX0.ne', mul_comm X θ]
      rw [h1]
      simp only [kept, (hx _).2.1, hsum]
      norm_cast
    have hchosen : ∀ j, chosen l θ j = ((w j : ℝ) : EReal) := fun j => by
      have he : excess l θ j = ((x j / X - θ : ℝ) : EReal) := by
        simp only [excess, (hx _).2.2.1, hsum, ← Finset.sum_mul, ← hX]
        rw [Ideal.div_coe (mul_pos hX0 hk0).ne', ← EReal.coe_mul]
        norm_cast
        field_simp
      rw [chosen, he]
      by_cases h : 0 ≤ x j / X - θ
      · rw [if_pos (by exact_mod_cast h), mul_one, hw]; simp [max_eq_left h]
      · rw [if_neg (by exact_mod_cast h), mul_zero, hw]; simp [max_eq_right (not_le.mp h).le]
    have hw0 : ∀ j, 0 ≤ w j := fun j => le_max_right _ _
    by_cases hW : ∑ j, w j = 0
    · have hz : ∀ j, w j = 0 := fun j =>
        (Finset.sum_eq_zero_iff_of_nonneg fun j _ => hw0 j).mp hW j (Finset.mem_univ j)
      have h2 : referenceWeight l θ e = 0 := by simp [referenceWeight, hchosen, hz, div_zero_left]
      refine ⟨?_, 0, le_rfl, by simpa using h2⟩
      rw [h2]; simp [kernelWeight, hkept, hz, div_zero_left]
    · have hne : X * ∑ j, w j ≠ 0 := mul_ne_zero hX0.ne' hW
      have h2 : referenceWeight l θ e = ((w e / ∑ j, w j : ℝ) : EReal) := by
        simp only [referenceWeight, hchosen, hsum]
        rw [if_neg (by exact_mod_cast hW), Ideal.div_coe hW, ← EReal.coe_mul, one_div, div_eq_mul_inv]
      refine ⟨?_, _, div_nonneg (hw0 e) (Finset.sum_nonneg fun j _ => hw0 j), h2⟩
      rw [h2]
      simp only [kernelWeight, hkept, hsum, ← Finset.mul_sum]
      rw [if_neg (by exact_mod_cast hne), Ideal.div_coe hne, ← EReal.coe_mul]
      norm_cast
      field_simp

/-- A finite nonnegative factor moves into a sum. -/
theorem sum_mul_coe {ι : Type} (s : Finset ι) (f : ι → EReal) (w : ℝ) (hw : 0 ≤ w) :
    (∑ i ∈ s, f i) * (w : EReal) = ∑ i ∈ s, f i * (w : EReal) := by
  classical
  induction s using Finset.induction_on with
  | empty => simp
  | insert a s ha ih =>
    rw [Finset.sum_insert ha, Finset.sum_insert ha,
      EReal.right_distrib_of_nonneg_of_ne_top (by exact_mod_cast hw) (EReal.coe_ne_top w), ih]

end Cert.Weights

end
-- ==== Proof.Rows.lean ====
/- One output element, by the kernel (a sum over the 256 stacked components of all experts) and by the reference
   (expert by expert), and their equation. -/
module

public import proofs.«01_k».proof.Proof.Weights

@[expose] public section

set_option maxRecDepth 16384

noncomputable section

namespace Cert.Rows

open Idealize.ShloMosaic Cert.Weights

/-- The logits of one token `x`: router rows `R`, bias `b`. -/
def logits (x : Fin 2048 → EReal) (R : Fin 8 → Fin 2048 → EReal) (b : Fin 8 → EReal) (e : Fin 8) : EReal :=
  ∑ d, x d * R e d + b e

/-- The threshold of one token: the logistic of its own linear map, over eight. -/
def threshold (x q : Fin 2048 → EReal) (a : EReal) : EReal :=
  Ideal.logistic (∑ d, x d * q d + a) * Ideal.ofBits .f32 0x3E000000#32

/-- One output element by the kernel: all 256 stacked down-projected components, each scaled by the weight of
    the expert that it belongs to, against the stacked up projection. -/
def kernelRow (x : Fin 2048 → EReal) (l : Fin 8 → EReal) (θ : EReal) (A : Fin 2048 → Fin 256 → EReal)
    (B : Fin 256 → EReal) : EReal :=
  ∑ k : Fin 256, (∑ d, x d * A d k) * kernelWeight l θ ⟨k.val / 32, by omega⟩ * B k

/-- One output element by the reference: expert by expert. -/
def referenceRow (x : Fin 2048 → EReal) (l : Fin 8 → EReal) (θ : EReal) (A : Fin 8 → Fin 32 → Fin 2048 → EReal)
    (B : Fin 8 → Fin 32 → EReal) : EReal :=
  ∑ e, (∑ r, (∑ d, x d * A e r d) * B e r) * referenceWeight l θ e

/-- The threshold is a nonnegative real number, whatever the token is. -/
theorem threshold_real (x q : Fin 2048 → EReal) (a : EReal) : ∃ θ : ℝ, 0 ≤ θ ∧ threshold x q a = θ := by
  have h8 : Ideal.ofBits .f32 0x3E000000#32 = ((1 / 8 : ℝ) : EReal) := by
    simp [Ideal.ofBits, Ideal.ieee, -EReal.coe_mul]; norm_num
  obtain ⟨s, hs, h⟩ : ∃ s : ℝ, 0 ≤ s ∧ Ideal.logistic (∑ d, x d * q d + a) = s := by
    generalize ∑ d, x d * q d + a = y
    induction y with
    | bot => exact ⟨0, le_rfl, by simp⟩
    | top => exact ⟨1, zero_le_one, by simp⟩
    | coe y => exact ⟨(1 + Real.exp (-y))⁻¹, by positivity, Ideal.logistic_coe y⟩
  exact ⟨s * (1 / 8), by positivity, by rw [threshold, h, h8, EReal.coe_mul]⟩

/-- A stacked component belongs to one expert: summing the weights against its indicator picks that one. -/
theorem pick (w : Fin 8 → EReal) (k : Fin 256) :
    ∑ e : Fin 8, w e * (if k.val / 32 = e.val then 1 else 0) = w ⟨k.val / 32, by omega⟩ := by
  rw [Finset.sum_eq_single (⟨k.val / 32, by omega⟩ : Fin 8)]
  · simp
  · intro e _ he
    rw [if_neg fun h => he (Fin.ext h.symm), mul_zero]
  · simp

/-- A sum over the 256 stacked components, expert by expert. -/
theorem sum_stacked (f : Fin 8 → Fin 32 → EReal) :
    ∑ k : Fin 256, f ⟨k.val / 32, by omega⟩ ⟨k.val % 32, by omega⟩ = ∑ e, ∑ r, f e r := by
  rw [← Fintype.sum_prod_type']
  refine Fintype.sum_equiv (finProdFinEquiv (m := 8) (n := 32)).symm _ _ fun k => ?_
  rfl

/-- The kernel's output element is the reference's. -/
theorem row_eq (x : Fin 2048 → EReal) (l : Fin 8 → EReal) (θ : ℝ) (hθ : 0 ≤ θ)
    (A : Fin 8 → Fin 32 → Fin 2048 → EReal) (B : Fin 8 → Fin 32 → EReal) :
    kernelRow x l θ (fun d k => A ⟨k.val / 32, by omega⟩ ⟨k.val % 32, by omega⟩ d)
        (fun k => B ⟨k.val / 32, by omega⟩ ⟨k.val % 32, by omega⟩) =
      referenceRow x l θ A B := by
  unfold kernelRow referenceRow
  rw [sum_stacked fun e r => (∑ d, x d * A e r d) * kernelWeight l θ e * B e r]
  refine Finset.sum_congr rfl fun e _ => ?_
  obtain ⟨h, w, hw, hr⟩ := weights l θ hθ e
  rw [h, hr, sum_mul_coe _ _ w hw]
  exact Finset.sum_congr rfl fun r _ => by rw [mul_right_comm]

end Cert.Rows

end
-- ==== Proof.Block.lean ====
/- What one grid point computes: the two halves that the kernel body stores, read at an index, are one function
   `blockRow` of the input blocks. -/
module

public import proofs.«01_k».proof.Proof.KernelIdealRun
public import proofs.«01_k».proof.Proof.Rows
public import Idealize.ShloMosaic.Lib.Pipeline.ReadBack

@[expose] public section

set_option maxRecDepth 16384

noncomputable section

namespace Cert.KernelIdeal.Block

open Cert.KernelIdeal Cert.KernelIdeal.Gen Cert.KernelIdeal.Run Cert.Weights Cert.Rows
open Idealize.ShloMosaic Idealize.SL.Sem

/-- The kernel's integer test, floor division by 32 against the expert's number, decided at every stacked component. -/
theorem indicator_bits : ∀ (e : Fin 8) (k : Fin 256),
    IntOp.cmpi CmpIPredicate.eq
        (Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 k.val) 32#32) 0#32))
          (IntOp.subi (IntOp.divsi ArithUnit.vector (BitVec.ofNat 32 k.val) 32#32) 1#32)
          (IntOp.divsi ArithUnit.vector (BitVec.ofNat 32 k.val) 32#32))
        (BitVec.ofNat 32 e.val) = if k.val / 32 = e.val then 1#1 else 0#1 := by
  decide +kernel

/-- The kernel's expansion matrix: one where the stacked component belongs to the expert, zero elsewhere. -/
theorem expand_apply (e : Fin 8) (k : Fin 256) :
    (k0_pay1 (F := Ideal)) (ix2 e k) = if k.val / 32 = e.val then 1 else 0 := by
  pointwise [k0_pay1]
  rw [indicator_bits]
  split <;> rfl

/-- The output element in row `r` and column `o` of a token block, from the blocks of the input windows. The two
    halves of a token block compute it in the same way. -/
def blockRow (x0 : Vec Ideal S1024x2048 .f32) (x1 : Vec Ideal S2048x256 .bf16) (x2 : Vec Ideal S16x2048 .bf16)
    (x3 : Vec Ideal S256x2048 .bf16) (x4 : Vec Ideal S8x1 .f32) (x5 : Vec Ideal S1x1 .f32) (r : Fin 1024) (o : Fin 2048) :
    EReal :=
  kernelRow (fun d => x0 (ix2 r d))
    (logits (fun d => x0 (ix2 r d)) (fun e d => x2 (ix2 (⟨e.val, by omega⟩ : Fin 16) d)) (fun e => x4 (ix2 e 0)))
    (threshold (fun d => x0 (ix2 r d)) (fun d => x2 (ix2 (8 : Fin 16) d)) (x5 (ix2 0 0)))
    (fun d k => x1 (ix2 d k)) (fun k => x3 (ix2 k o))

variable (x0 : Vec Ideal S1024x2048 .f32) (x1 : Vec Ideal S2048x256 .bf16) (x2 : Vec Ideal S16x2048 .bf16)
  (x3 : Vec Ideal S256x2048 .bf16) (x4 : Vec Ideal S8x1 .f32) (x5 : Vec Ideal S1x1 .f32)

/-- What the first trip stores, at an index. -/
theorem top_apply (r : Fin 512) (o : Fin 2048) :
    topVal x0 x1 x2 x3 x4 x5 (ix2 r o) = blockRow x0 x1 x2 x3 x4 x5 ⟨r.val, by omega⟩ o := by
  pointwise [topVal, k0_pay6, k0_pay2, k0_pay4, k0_pay5, k0_pay3]
  have hc : ∀ i j, x2 i * x0 j = x0 j * x2 i := fun _ _ => mul_comm _ _
  simp only [expand_apply, pick, hc]
  rfl

/-- What the second trip stores, at an index. -/
theorem bot_apply (r : Fin 512) (o : Fin 2048) :
    botVal x0 x1 x2 x3 x4 x5 (ix2 r o) = blockRow x0 x1 x2 x3 x4 x5 ⟨512 + r.val, by omega⟩ o := by
  pointwise [botVal, k0_pay9, k0_pay7, k0_pay8]
  have hc : ∀ i j, x2 i * x0 j = x0 j * x2 i := fun _ _ => mul_comm _ _
  simp only [expand_apply, pick, hc]
  rfl

/-- What a grid point leaves in the output window, at an index. -/
theorem blockOut_apply (y : S1024x2048.Idx) :
    blockOut x0 x1 x2 x3 x4 x5 y = blockRow x0 x1 x2 x3 x4 x5 (y 0) (y 1) := by
  have h : View.PiecesOf (Val := Elt Ideal) (s := S1024x2048) (e := .f32)
      (fun y => blockRow x0 x1 x2 x3 x4 x5 (y 0) (y 1))
      [⟨rBot, botVal x0 x1 x2 x3 x4 x5⟩, ⟨rTop, topVal x0 x1 x2 x3 x4 x5⟩] := by
    refine ⟨fun x => ?_, fun x => ?_, trivial⟩
    · rw [eq_ix2 x]
      refine (bot_apply x0 x1 x2 x3 x4 x5 (x 0) (x 1)).trans ?_
      refine congrArg₂ (blockRow x0 x1 x2 x3 x4 x5) (Fin.ext ?_) (Fin.ext ?_)
      · show 512 + (x 0).val = 512 + 1 * (x 0).val
        omega
      · show (x 1).val = 0 + 1 * (x 1).val
        omega
    · rw [eq_ix2 x]
      refine (top_apply x0 x1 x2 x3 x4 x5 (x 0) (x 1)).trans ?_
      refine congrArg₂ (blockRow x0 x1 x2 x3 x4 x5) (Fin.ext ?_) (Fin.ext ?_)
      · show (x 0).val = 0 + 1 * (x 0).val
        omega
      · show (x 1).val = 0 + 1 * (x 1).val
        omega
  exact View.canon_append_of_piecesOf (Val := Elt Ideal) (s := S1024x2048) (e := .f32)
    (fun y => blockRow x0 x1 x2 x3 x4 x5 (y 0) (y 1)) []
    [⟨rBot, botVal x0 x1 x2 x3 x4 x5⟩, ⟨rTop, topVal x0 x1 x2 x3 x4 x5⟩] h y (stores_cover _ _ y)

end Cert.KernelIdeal.Block

end
-- ==== Proof.Entry.lean ====
/- The arrays that the host prefix prepares for the launch, read at an index: each is an argument, reshaped,
   transposed or stacked. -/
module

public import proofs.«01_k».proof.Proof.KernelIdealRun
public import Idealize.ShloMosaic.Lib.Pointwise
public import Idealize.ShloMosaic.Lib.StableHlo.Run

@[expose] public section

set_option maxRecDepth 16384

noncomputable section

namespace Cert.KernelIdeal.Entry

open Cert.KernelIdeal Cert.KernelIdeal.Gen Cert.KernelIdeal.Run Idealize.ShloMosaic Idealize.SL.Sem
open Idealize.ShloMosaic.StableHlo

variable (m : (ℓ : Loc nD τ sig) → Buf (Elt Ideal) ℓ) (c : Dev nD)

/-- The stacked down projection: column `k` is component `k % 32` of expert `k / 32`. -/
theorem down (d : Fin 2048) (k : Fin 256) :
    entry m c main_call0_v2 (ix2 d k) =
      m (c.tc.loc main_arg5) (ix3 (⟨k.val / 32, by omega⟩ : Fin 8) (⟨k.val % 32, by omega⟩ : Fin 32) d) := by
  unfold entry
  simp only [hostOps0, TRef.unary, TRef.nullary, TRef.reshape, TRef.nary, TRef.toBuf, TRef.ofBuf, cast_eq]
  after_results_simp
  pointwise

/-- The stacked up projection: row `k` is component `k % 32` of expert `k / 32`. -/
theorem up (k : Fin 256) (o : Fin 2048) :
    entry m c main_call0_v8 (ix2 k o) =
      m (c.tc.loc main_arg6) (ix3 (⟨k.val / 32, by omega⟩ : Fin 8) o (⟨k.val % 32, by omega⟩ : Fin 32)) := by
  unfold entry
  simp only [hostOps0, TRef.unary, TRef.nullary, TRef.reshape, TRef.nary, TRef.toBuf, TRef.ofBuf, cast_eq]
  after_results_simp
  pointwise

/-- The router bias as a column. -/
theorem bias (e : Fin 8) : entry m c main_call0_v9 (ix2 e 0) = m (c.tc.loc main_arg2) (ix1 e) := by
  unfold entry
  simp only [hostOps0, TRef.unary, TRef.nullary, TRef.reshape, TRef.nary, TRef.toBuf, TRef.ofBuf, cast_eq]
  after_results_simp
  pointwise

/-- The threshold bias as a one-by-one array. -/
theorem thrBias : entry m c main_call0_v10 (ix2 0 0) = m (c.tc.loc main_arg4) (ix1 0) := by
  unfold entry
  simp only [hostOps0, TRef.unary, TRef.nullary, TRef.reshape, TRef.nary, TRef.toBuf, TRef.ofBuf, cast_eq]
  after_results_simp
  pointwise

/-- The router rows, the threshold row and seven rows of zeros, stacked. -/
theorem stack :
    entry m c main_call0_v5 = (truncf (F := Ideal) .bf16 (concatenate S16x2048 0
      [⟨S8x2048, (m (c.tc.loc main_arg1) : Vec Ideal S8x2048 .f32)⟩,
       ⟨S1x2048, (m (c.tc.loc main_arg3) : Vec Ideal S1x2048 .f32)⟩,
       ⟨S7x2048, broadcastInDim S7x2048 ![] bcast_S_S7x2048 (constant (F := Ideal) S_ .f32 0x00000000#32 : Vec Ideal S_ .f32)⟩]
      concatenates_S8x2048_S1x2048_S7x2048_S16x2048_d0) bitsLt_bf16_f32 : Vec Ideal S16x2048 .bf16) := by
  unfold entry
  rw [show after (hostOps0 (F := Ideal)) (fun b => m (c, b)) = after (List.drop 5 (hostOps0 (F := Ideal)))
    (after (List.take 5 (hostOps0 (F := Ideal))) (fun b => m (c, b))) from rfl]
  have h1 : after (List.take 5 (hostOps0 (F := Ideal))) (fun b => m (c, b)) (Proc.devRef .tc main_arg1) = m (c.tc.loc main_arg1) := by
    simp only [hostOps0, List.take, TRef.unary, TRef.nullary, TRef.reshape, TRef.toBuf, TRef.ofBuf, cast_eq]
    after_results_simp
  have h3 : after (List.take 5 (hostOps0 (F := Ideal))) (fun b => m (c, b)) (Proc.devRef .tc main_arg3) = m (c.tc.loc main_arg3) := by
    simp only [hostOps0, List.take, TRef.unary, TRef.nullary, TRef.reshape, TRef.toBuf, TRef.ofBuf, cast_eq]
    after_results_simp
  have h7 : after (List.take 5 (hostOps0 (F := Ideal))) (fun b => m (c, b)) (Proc.devRef .tc main_call0_v3) =
      broadcastInDim S7x2048 ![] bcast_S_S7x2048 (constant (F := Ideal) S_ .f32 0x00000000#32 : Vec Ideal S_ .f32) := by
    simp only [hostOps0, List.take, TRef.unary, TRef.nullary, TRef.reshape, TRef.toBuf, TRef.ofBuf, cast_eq]
    after_results_simp
  rw [← h1, ← h3, ← h7]
  generalize after (List.take 5 (hostOps0 (F := Ideal))) (fun b => m (c, b)) = X
  simp only [hostOps0, List.drop, TRef.unary, TRef.nullary, TRef.reshape, TRef.nary, TRef.toBuf, TRef.ofBuf, cast_eq]
  after_results_simp
  rfl

/-- The stack's first eight rows are the router's. -/
theorem router (e : Fin 8) (d : Fin 2048) :
    entry m c main_call0_v5 (ix2 (⟨e.val, by omega⟩ : Fin 16) d) = m (c.tc.loc main_arg1) (ix2 e d) := by
  rw [stack]
  pointwise

/-- The stack's next row is the threshold's. -/
theorem threshold (d : Fin 2048) :
    entry m c main_call0_v5 (ix2 (8 : Fin 16) d) = m (c.tc.loc main_arg3) (ix2 0 d) := by
  rw [stack]
  pointwise

end Cert.KernelIdeal.Entry

end
-- ==== Proof.Array.lean ====
/- The array that the kernel's run leaves: the input windows' blocks read off the launch arrays, then the output
   window's blocks, which cover the result. -/
module

public import proofs.«01_k».proof.Proof.Block
public import proofs.«01_k».proof.Proof.Entry
public import Idealize.ShloMosaic.Lib.Pipeline.ValueKit
public import Idealize.ShloMosaic.Lib.Pipeline.ReadBack

@[expose] public section

set_option maxRecDepth 16384

noncomputable section

namespace Cert.KernelIdeal.Array

open Cert.KernelIdeal Cert.KernelIdeal.Gen Cert.KernelIdeal.Run Cert.Weights Cert.Rows
open Idealize.ShloMosaic Idealize.ShloMosaic.TcCoe Idealize.SL.Sem

/-! The block index of each window at a grid point: the token block for the tokens and the result, zero for the
    arrays that a window holds whole. -/

theorem index_6 : ∀ t : Fin cfg0.N, win0_6.index t = ![t.val, 0] :=
  (by decide +kernel : ∀ t : Fin grid0.N, win0_6.index t = ![t.val, 0])
theorem index_0 : ∀ t : Fin cfg0.N, win0_0.index t = ![t.val, 0] :=
  (by decide +kernel : ∀ t : Fin grid0.N, win0_0.index t = ![t.val, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![0, 0] :=
  (by decide +kernel : ∀ t : Fin grid0.N, win0_5.index t = ![0, 0])

variable (m : (ℓ : Loc nD τ sig) → Buf (Elt Ideal) ℓ) (c : Dev nD)

/-- The output element of token `t` and column `o`, from the launch arrays. -/
def out (t : Fin 8192) (o : Fin 2048) : EReal :=
  kernelRow (fun d => m (c.tc.loc main_arg0) (ix2 t d))
    (logits (fun d => m (c.tc.loc main_arg0) (ix2 t d)) (fun e d => m (c.tc.loc main_arg1) (ix2 e d))
      (fun e => m (c.tc.loc main_arg2) (ix1 e)))
    (threshold (fun d => m (c.tc.loc main_arg0) (ix2 t d)) (fun d => m (c.tc.loc main_arg3) (ix2 0 d))
      (m (c.tc.loc main_arg4) (ix1 0)))
    (fun d k => m (c.tc.loc main_arg5) (ix3 (⟨k.val / 32, by omega⟩ : Fin 8) (⟨k.val % 32, by omega⟩ : Fin 32) d))
    (fun k => m (c.tc.loc main_arg6) (ix3 (⟨k.val / 32, by omega⟩ : Fin 8) o (⟨k.val % 32, by omega⟩ : Fin 32)))

/-- The token that row `r` of block `t` is. -/
abbrev token (t : Fin cfg0.N) (r : Fin 1024) : Fin 8192 :=
  ⟨t.val * 1024 + r.val, by have := t.isLt; change t.val < 8 at this; omega⟩

/-! What each input window's block holds, from the launch arrays. -/

theorem block_0 (t : Fin cfg0.N) (r : Fin 1024) (d : Fin 2048) :
    block m c 0 t (ix2 r d) = m (c.tc.loc main_arg0) (ix2 (token t r) d) := by
  blk_simp [block]
  rw [show entry m c (Pipeline.arrRef spec0 0) = m (c.tc.loc main_arg0) from entry_unwritten m c main_arg0 (by decide)]
  blk_ext [index_0]

theorem block_1 (t : Fin cfg0.N) (d : Fin 2048) (k : Fin 256) :
    block m c 1 t (ix2 d k) =
      m (c.tc.loc main_arg5) (ix3 (⟨k.val / 32, by omega⟩ : Fin 8) (⟨k.val % 32, by omega⟩ : Fin 32) d) := by
  rw [← Entry.down m c d k]
  blk_simp [block]
  change entry m c main_call0_v2 _ = _
  blk_ext [index_1]

theorem block_2 (t : Fin cfg0.N) (e : Fin 16) (d : Fin 2048) :
    block m c 2 t (ix2 e d) = entry m c main_call0_v5 (ix2 e d) := by
  blk_simp [block]
  change entry m c main_call0_v5 _ = _
  blk_ext [index_2]

theorem block_3 (t : Fin cfg0.N) (k : Fin 256) (o : Fin 2048) :
    block m c 3 t (ix2 k o) =
      m (c.tc.loc main_arg6) (ix3 (⟨k.val / 32, by omega⟩ : Fin 8) o (⟨k.val % 32, by omega⟩ : Fin 32)) := by
  rw [← Entry.up m c k o]
  blk_simp [block]
  change entry m c main_call0_v8 _ = _
  blk_ext [index_3]

theorem block_4 (t : Fin cfg0.N) (e : Fin 8) : block m c 4 t (ix2 e 0) = m (c.tc.loc main_arg2) (ix1 e) := by
  rw [← Entry.bias m c e]
  blk_simp [block]
  change entry m c main_call0_v9 _ = _
  blk_ext [index_4]

theorem block_5 (t : Fin cfg0.N) : block m c 5 t (ix2 0 0) = m (c.tc.loc main_arg4) (ix1 0) := by
  rw [← Entry.thrBias m c]
  blk_simp [block]
  change entry m c main_call0_v10 _ = _
  blk_ext [index_5]

/-- What a grid point computes for row `r` of its block is the output element of the token that the row is. -/
theorem blockRow_eq (t : Fin cfg0.N) (r : Fin 1024) (o : Fin 2048) :
    Block.blockRow (block m c 0 t) (block m c 1 t) (block m c 2 t) (block m c 3 t) (block m c 4 t) (block m c 5 t) r o =
      out m c (token t r) o := by
  have h0 : (fun d => block m c 0 t (ix2 r d)) = fun d => m (c.tc.loc main_arg0) (ix2 (token t r) d) :=
    funext fun d => block_0 m c t r d
  have h1 : (fun (d : Fin 2048) (k : Fin 256) => block m c 1 t (ix2 d k)) = fun d k =>
      m (c.tc.loc main_arg5) (ix3 (⟨k.val / 32, by omega⟩ : Fin 8) (⟨k.val % 32, by omega⟩ : Fin 32) d) :=
    funext fun d => funext fun k => block_1 m c t d k
  have h2 : (fun (e : Fin 8) (d : Fin 2048) => block m c 2 t (ix2 (⟨e.val, by omega⟩ : Fin 16) d)) = fun e d =>
      m (c.tc.loc main_arg1) (ix2 e d) :=
    funext fun e => funext fun d => (block_2 m c t _ d).trans (Entry.router m c e d)
  have h8 : (fun (d : Fin 2048) => block m c 2 t (ix2 (8 : Fin 16) d)) = fun d => m (c.tc.loc main_arg3) (ix2 0 d) :=
    funext fun d => (block_2 m c t _ d).trans (Entry.threshold m c d)
  have h3 : (fun (k : Fin 256) => block m c 3 t (ix2 k o)) = fun k =>
      m (c.tc.loc main_arg6) (ix3 (⟨k.val / 32, by omega⟩ : Fin 8) o (⟨k.val % 32, by omega⟩ : Fin 32)) :=
    funext fun k => block_3 m c t k o
  have h4 : (fun (e : Fin 8) => block m c 4 t (ix2 e 0)) = fun e => m (c.tc.loc main_arg2) (ix1 e) :=
    funext fun e => block_4 m c t e
  unfold Block.blockRow out
  rw [h0, h1, h2, h8, h3, h4, block_5]

/-- The result array after the run. -/
theorem result_eq : result m c = fun i => out m c (i 0) (i 1) := by
  unfold result
  refine (data m 0 c).arrAt_eq_of_covers 6 _ (by decide +kernel) fun t hf y => ?_
  blk_simp
  rw [after_6, Block.blockOut_apply]
  refine (blockRow_eq m c t (y 0) (y 1)).trans (congrArg₂ (out m c) (Fin.ext ?_) (Fin.ext ?_))
  · blk_simp [index_6]
  · blk_simp [index_6]

end Cert.KernelIdeal.Array

end
-- ==== Proof.Reference.lean ====
/- What the reference's run leaves, read at an index. -/
module

public import proofs.«01_k».proof.Proof.Gen.ReferenceIdeal.Run
public import proofs.«01_k».proof.Proof.Rows

@[expose] public section

set_option maxRecDepth 16384

noncomputable section

namespace Cert.ReferenceIdeal.Array

open Cert.ReferenceIdeal Cert.ReferenceIdeal.Value Cert.Weights Cert.Rows
open Idealize.ShloMosaic Idealize.SL.Sem

/-- The single-precision word of minus infinity. -/
theorem ofBits_neg_inf : Ideal.ofBits .f32 0xFF800000#32 = ⊥ := by
  simp [Ideal.ofBits, Ideal.ieee]

/-- A comparison's bit as a number. -/
theorem uitofp_decide (p : Prop) [Decidable p] :
    FloatOps.uitofp (F := Ideal) .f32 (BitVec.ofBool (decide p)) = if p then (1 : EReal) else 0 := by
  by_cases h : p <;> simp [h, FloatOps.uitofp]

/-- The reference's result at token `t` and column `o`. -/
theorem out_apply (m : (ℓ : Loc nD τ sig) → Buf (Elt Ideal) ℓ) (c : Dev nD) (t : Fin 8192) (o : Fin 2048) :
    res_out0 m c (ix2 t o) =
      referenceRow (fun d => m (c.tc.loc main_arg0) (ix2 t d))
        (logits (fun d => m (c.tc.loc main_arg0) (ix2 t d)) (fun e d => m (c.tc.loc main_arg1) (ix2 e d))
          (fun e => m (c.tc.loc main_arg2) (ix1 e)))
        (threshold (fun d => m (c.tc.loc main_arg0) (ix2 t d)) (fun d => m (c.tc.loc main_arg3) (ix2 0 d))
          (m (c.tc.loc main_arg4) (ix1 0)))
        (fun e r d => m (c.tc.loc main_arg5) (ix3 e r d)) (fun e r => m (c.tc.loc main_arg6) (ix3 e o r)) := by
  pointwise [res_main_v48]
  simp only [uitofp_decide, ofBits_neg_inf, max_bot_left]
  have hc : ∀ (a : Fin 8 → Fin 32 → Fin 2048 → EReal) (x : Fin 2048 → EReal) (e : Fin 8) (r : Fin 32),
      ∑ d, a e r d * x d = ∑ d, x d * a e r d := fun a x e r => Finset.sum_congr rfl fun d _ => mul_comm _ _
  have hc := hc (fun e r d => m (c.tc.loc main_arg5) (ix3 e r d)) (fun d => m (c.tc.loc main_arg0) (ix2 t d))
  simp only [hc]
  rfl

end Cert.ReferenceIdeal.Array

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Array
public import proofs.«01_k».proof.Proof.Reference
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, leaves its arguments as they were, and has no counters. -/
theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, element by element. -/
theorem result_eq (m : (ℓ : Loc Cert.KernelIdeal.nD Cert.KernelIdeal.τ Cert.KernelIdeal.sig) → Buf (Elt Ideal) ℓ)
    (c : Dev Cert.KernelIdeal.nD) (t : Fin 8192) (o : Fin 2048) :
    Cert.KernelIdeal.Array.out m c t o =
      Cert.Rows.referenceRow (fun d => m (c.tc.loc Cert.KernelIdeal.main_arg0) (ix2 t d))
        (Cert.Rows.logits (fun d => m (c.tc.loc Cert.KernelIdeal.main_arg0) (ix2 t d))
          (fun e d => m (c.tc.loc Cert.KernelIdeal.main_arg1) (ix2 e d))
          (fun e => m (c.tc.loc Cert.KernelIdeal.main_arg2) (ix1 e)))
        (Cert.Rows.threshold (fun d => m (c.tc.loc Cert.KernelIdeal.main_arg0) (ix2 t d))
          (fun d => m (c.tc.loc Cert.KernelIdeal.main_arg3) (ix2 0 d)) (m (c.tc.loc Cert.KernelIdeal.main_arg4) (ix1 0)))
        (fun e r d => m (c.tc.loc Cert.KernelIdeal.main_arg5) (ix3 e r d))
        (fun e r => m (c.tc.loc Cert.KernelIdeal.main_arg6) (ix3 e o r)) := by
  unfold Cert.KernelIdeal.Array.out
  obtain ⟨θ, hθ, h⟩ := Cert.Rows.threshold_real (fun d => m (c.tc.loc Cert.KernelIdeal.main_arg0) (ix2 t d))
    (fun d => m (c.tc.loc Cert.KernelIdeal.main_arg3) (ix2 0 d)) (m (c.tc.loc Cert.KernelIdeal.main_arg4) (ix1 0))
  rw [h]
  exact Cert.Rows.row_eq _ _ θ hθ (fun e r d => m (c.tc.loc Cert.KernelIdeal.main_arg5) (ix3 e r d))
    (fun e r => m (c.tc.loc Cert.KernelIdeal.main_arg6) (ix3 e o r))

/-- From the same arguments the kernel and the reference leave the same result. -/
theorem algebraic : algebraic_KernelIdeal_ReferenceIdeal := by
  intro m ρ m' ρ' _ hagree
  refine ⟨Cert.KernelIdeal.Run.result m, (θ_run Cert.KernelIdeal.defs _ _).mono (fun _ h => h.1)
    (Cert.KernelIdeal.Run.run m ρ), ?_⟩
  refine (θ_run Cert.ReferenceIdeal.defs _ _).mono (fun _ h c => ⟨?_, (h c).2⟩)
    (Cert.ReferenceIdeal.Value.run (F := Ideal) m' ρ')
  rw [(h c).1, Cert.KernelIdeal.Array.result_eq]
  funext i
  obtain ⟨h0, h1, h2, h3, h4, h5, h6⟩ := hagree c
  refine (congrArg (Cert.ReferenceIdeal.Value.res_main_v48 m' c) (eq_ix2 i)).trans ?_
  refine (Cert.ReferenceIdeal.Array.out_apply m' c (i 0) (i 1)).trans ?_
  rw [h0, h1, h2, h3, h4, h5, h6]
  exact (result_eq m c (i 0) (i 1)).symm

theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ, frame_ReferenceIdeal, trivial,
    algebraic⟩

end Cert.Proof

end
